-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384 : Shape := ⟨1, ![16384]⟩
abbrev S2x2 : Shape := ⟨2, ![2, 2]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S2x2 .f32) : IVec S16384 1 :=
  let main_c : IVec S_ 32 := constantI S_ 32 4294967295#32
  let main_v0 : IVec S16384 32 := broadcastInDim S16384 ![] bcast_S_S16384 main_c
  let main_v1 : IVec S16384 1 := cmpi .sge main_arg0 main_v0
  let main_c_0 : IVec S_ 32 := constantI S_ 32 2#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Kernel.lean ====
abbrev S16384 : Shape := ⟨1, ![16384]⟩
abbrev S2x2 : Shape := ⟨2, ![2, 2]⟩
abbrev S2x16384 : Shape := ⟨2, ![2, 16384]⟩
abbrev S16 : Shape := ⟨1, ![16]⟩
abbrev S1024 : Shape := ⟨1, ![1024]⟩
abbrev S2048 : Shape := ⟨1, ![2048]⟩
abbrev S_ : Shape := ⟨0, ![]⟩
abbrev S1x1024 : Shape := ⟨2, ![1, 1024]⟩
abbrev S16384x2 : Shape := ⟨2, ![16384, 2]⟩

abbrev nBuf : Table → Nat
  | .hbm => 4
  | .local .scVector .vmem => 4
  | _ => 0

abbrev bufTy : (tb : Table) → Fin (nBuf tb) → BufTy
  | .hbm, ⟨0, _⟩ => ⟨S16384, .i32⟩
  | .hbm, ⟨1, _⟩ => ⟨S2x2, .f32⟩
  | .hbm, ⟨2, _⟩ => ⟨S2x16384, .f32⟩
  | .hbm, ⟨3, _⟩ => ⟨S16384x2, .f32⟩
  | .local .scVector .vmem, ⟨0, _⟩ => ⟨S16, .f32⟩
  | .local .scVector .vmem, ⟨1, _⟩ => ⟨S2x2, .f32⟩
  | .local .scVector .vmem, ⟨2, _⟩ => ⟨S1024, .i32⟩
  | .local .scVector .vmem, ⟨3, _⟩ => ⟨S2048, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]

def k0_chk1 (v9 : IVec S16 32) (v11 : IVec S16 32) : Prop :=
  (∀ a x, ((![v9, v11] : Fin 2 → IVec S16 32) a x).toNat < S2x2.size a)
theorem k0_idx1_inb : ∀ (v9 : IVec S16 32) (v11 : IVec S16 32) (k0_hw1 : k0_chk1 v9 v11), ∀ a x, ((![v9, v11] : Fin 2 → IVec S16 32) a x).toNat < S2x2.size a := fun v9 v11 k0_hw1 => k0_hw1

def k0_chk2 (v5 : IVec S16 32) : Prop :=
  (∀ a x, ((![v5] : Fin 1 → IVec S16 32) a x).toNat < S16.size a) ∧
  (∀ a x, ((![v5] : Fin 1 → IVec S16 32) a x).toNat < S16.size a)
theorem k0_idx2_inb : ∀ (v5 : IVec S16 32) (k0_hw2 : k0_chk2 v5), ∀ a x, ((![v5] : Fin 1 → IVec S16 32) a x).toNat < S16.size a := fun v5 k0_hw2 => k0_hw2.1
theorem k0_idx3_inb : ∀ (v5 : IVec S16 32) (k0_hw2 : k0_chk2 v5), ∀ a x, ((![v5] : Fin 1 → IVec S16 32) a x).toNat < S16.size a := fun v5 k0_hw2 => k0_hw2.2

def k0_chk3 (v28 : IVec S16 32) : Prop :=
  (∀ a x, ((![v28] : Fin 1 → IVec S16 32) a x).toNat < S16.size a)
theorem k0_idx4_inb : ∀ (v28 : IVec S16 32) (k0_hw3 : k0_chk3 v28), ∀ a x, ((![v28] : Fin 1 → IVec S16 32) a x).toNat < S16.size a := fun v28 k0_hw3 => k0_hw3

def k0_chk4 (v31 : IVec S16 32) : Prop :=
  (∀ a x, ((![v31] : Fin 1 → IVec S16 32) a x).toNat < S16.size a)
theorem k0_idx5_inb : ∀ (v31 : IVec S16 32) (k0_hw4 : k0_chk4 v31), ∀ a x, ((![v31] : Fin 1 → IVec S16 32) a x).toNat < S16.size a := fun v31 k0_hw4 => k0_hw4

def k0_chk5 (v34 : IVec S16 32) : Prop :=
  (∀ a x, ((![v34] : Fin 1 → IVec S16 32) a x).toNat < S16.size a)
theorem k0_idx6_inb : ∀ (v34 : IVec S16 32) (k0_hw5 : k0_chk5 v34), ∀ a x, ((![v34] : Fin 1 → IVec S16 32) a x).toNat < S16.size a := fun v34 k0_hw5 => k0_hw5

def k0_chk6 (v37 : IVec S16 32) : Prop :=
  (∀ a x, ((![v37] : Fin 1 → IVec S16 32) a x).toNat < S16.size a)
theorem k0_idx7_inb : ∀ (v37 : IVec S16 32) (k0_hw6 : k0_chk6 v37), ∀ a x, ((![v37] : Fin 1 → IVec S16 32) a x).toNat < S16.size a := fun v37 k0_hw6 => k0_hw6
@[reducible] def k0_t1_loop : Scf.Loop 32 :=
  let c0_i32_8 : BitVec 32 := 0#32
  let c64_i32 : BitVec 32 := 64#32
  let v39 : BitVec 32 := Scalar.addi c0_i32_8 c64_i32
  let c1_i32_9 : BitVec 32 := 1#32
  ⟨c0_i32_8, v39, c1_i32_9⟩

def k0_chk7 (v42 : IVec S16 32) : Prop :=
  (∀ a x, ((![v42] : Fin 1 → IVec S16 32) a x).toNat < S1024.size a)
theorem k0_idx8_inb : ∀ (v42 : IVec S16 32) (k0_hw7 : k0_chk7 v42), ∀ a x, ((![v42] : Fin 1 → IVec S16 32) a x).toNat < S1024.size a := fun v42 k0_hw7 => k0_hw7
def k0_off2 (k0_t1 : Fin k0_t1_loop.trips) : Fin 1 → Nat :=
  let c0_i32_8 : BitVec 32 := 0#32
  let c1_i32_9 : BitVec 32 := 1#32
  let arg9 : BitVec 32 := Scf.iv c0_i32_8 c1_i32_9 k0_t1
  let c16_i32_14 : BitVec 32 := 16#32
  let v47 : BitVec 32 := Scalar.muli arg9 c16_i32_14
  let v48 : Index := Scalar.indexCast v47
  ![v48.toNat]
def k0_off3 (k0_t1 : Fin k0_t1_loop.trips) : Fin 1 → Nat :=
  let c1024_i32_16 : BitVec 32 := 1024#32
  let c0_i32_8 : BitVec 32 := 0#32
  let c1_i32_9 : BitVec 32 := 1#32
  let arg9 : BitVec 32 := Scf.iv c0_i32_8 c1_i32_9 k0_t1
  let c16_i32_15 : BitVec 32 := 16#32
  let v51 : BitVec 32 := Scalar.muli arg9 c16_i32_15
  let v52 : BitVec 32 := Scalar.addi c1024_i32_16 v51
  let v53 : Index := Scalar.indexCast v52
  ![v53.toNat]
def k0_off4 (i : grid0.Coords) : Fin 2 → Nat :=
  let c0_i32_11 : BitVec 32 := 0#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![0, v2.toNat]
def k0_off5 (i : grid0.Coords) : Fin 2 → Nat :=
  let c1_i32_12 : BitVec 32 := 1#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![1, v2.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S2x2 : Shape := ⟨2, ![2, 2]⟩
abbrev S_ : Shape := ⟨0, ![]⟩
abbrev S2 : Shape := ⟨1, ![2]⟩
abbrev S2x1 : Shape := ⟨2, ![2, 1]⟩
abbrev S16384x1 : Shape := ⟨2, ![16384, 1]⟩
abbrev S1 : Shape := ⟨1, ![1]⟩
abbrev S1x1 : Shape := ⟨2, ![1, 1]⟩
abbrev S2x16384 : Shape := ⟨2, ![2, 16384]⟩
abbrev S16384x2 : Shape := ⟨2, ![16384, 2]⟩

abbrev nBuf : Space → Nat
  | .hbm => 40
  | .vmem => 0
  | .smem => 0
  | _ => 0

abbrev bufTy : (tb : Table) → Fin (tcTables nBuf tb) → BufTy
  | .hbm, ⟨0, _⟩ => ⟨S16384, .i32⟩
  | .hbm, ⟨1, _⟩ => ⟨S2x2, .f32⟩
  | .hbm, ⟨2, _⟩ => ⟨S_, .f32⟩
  | .hbm, ⟨3, _⟩ => ⟨S2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2x1, .f32⟩
  | .hbm, ⟨8, _⟩ => ⟨S2x2, .f32⟩
  | .hbm, ⟨9, _⟩ => ⟨S2x2, .f32⟩
  | .hbm, ⟨10, _⟩ => ⟨S2x2, .f32⟩
  | .hbm, ⟨11, _⟩ => ⟨S_, .f32⟩
  | .hbm, ⟨12, _⟩ => ⟨S2, .f32⟩
  | .hbm, ⟨13, _⟩ => ⟨S2x1, .f32⟩
  | .hbm, ⟨14, _⟩ => ⟨S2x2, .f32⟩
  | .hbm, ⟨15, _⟩ => ⟨S2x2, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S1x1, .i32⟩
  | .hbm, ⟨29, _⟩ => ⟨S16384x1, .i32⟩
  | .hbm, ⟨30, _⟩ => ⟨S16384x1, .i1⟩
  | .hbm, ⟨31, _⟩ => ⟨S16384x1, .i1⟩
  | .hbm, ⟨32, _⟩ => ⟨S_, .i1⟩
  | .hbm, ⟨33, _⟩ => ⟨S16384, .i1⟩
  | .hbm, ⟨34, _⟩ => ⟨S2x16384, .f32⟩
  | .hbm, ⟨35, _⟩ => ⟨S2x16384, .i1⟩
  | .hbm, ⟨36, _⟩ => ⟨S_, .f32⟩
  | .hbm, ⟨37, _⟩ => ⟨S2x16384, .f32⟩
  | .hbm, ⟨38, _⟩ => ⟨S2x16384, .f32⟩
  | .hbm, ⟨39, _⟩ => ⟨S16384x2, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v11 : Ref sig .tc := ⟨.hbm, 38, rfl⟩
abbrev main_v12 : Ref sig .tc := ⟨.hbm, 39, rfl⟩

abbrev nD : Nat := 1
abbrev τ : Topo := Topo.v7x

variable {F : FTy → Type} [FloatOps F]
-- ==== Proof.Value.lean ====
/-
  What the kernel writes, as a function of its two inputs, over any float values. A row of the table holds two logits `a`, `b`;
  `prob a b` is the probability of the first under the softmax of the two, spelt as the kernel computes it: the exponential of
  the logit less the larger of the two, over the sum of that exponential and its peer's.
-/
module

public import proofs.«01_k».proof.Defs
public import proofs.«01_k».proof.Proof.Gen.KernelIdeal
public import proofs.«01_k».proof.Proof.Gen.KernelIdeal.Skeleton
public import Idealize.ShloMosaic.Lib.ValueIdxCoords

@[expose] public section

noncomputable section

namespace Cert.Proof.Emission

open Cert.KernelIdeal Cert.KernelIdeal.Gen
open Idealize.ShloMosaic Idealize.ShloMosaic.ValueIdx

variable {F : FTy → Type} [FloatOps F]

/-- The exponential of logit `a`, shifted by the larger of the row's two logits `a` and `b`. -/
def expTerm (a b : F .f32) : F .f32 := FloatOps.exp (FloatOps.subf a (FloatOps.maximumf a b))

/-- The probability of the logit `a` in a row holding `a` and `b`. -/
def prob (a b : F .f32) : F .f32 := FloatOps.divf (expTerm a b) (FloatOps.addf (expTerm a b) (expTerm b a))

/-- The entry for index word `w` in a row holding `a`, `b`: the first's probability for the word 0, the second's for any other word. -/
def pick (w : BitVec 32) (a b : F .f32) : F .f32 := if w = 0#32 then prob a b else prob b a

/-- The array the SparseCore call leaves, transposed to (state, position): row `s`, position `n` is what the word `x n` picks in row `s`. -/
def outVal (x : S16384.Idx → BitVec 32) (l : S2x2.Idx → F .f32) : S2x16384.Idx → F .f32 :=
  fun j => pick (x (ix1 (j 1))) (l (ix2 (j 0) 0)) (l (ix2 (j 0) 1))

end Cert.Proof.Emission

end
-- ==== Proof.Lanes.lean ====
/-
  The lanes of the body's sixteen-lane vectors: every index vector it gathers by is in range, and where the lanes that matter point.
  From these: the vector of probabilities the body computes holds the four probabilities of the table in its lanes 8 … 11.
-/
module

public import proofs.«01_k».proof.Proof.Value

@[expose] public section

noncomputable section

namespace Cert.Proof.Emission

open Cert.KernelIdeal Cert.KernelIdeal.Gen
open Idealize.ShloMosaic Idealize.ShloMosaic.ValueIdx

variable {F : FTy → Type} [FloatOps F]

/-! ## The constant index vectors of the body -/

/-- Every one of the sixteen lanes' peer is a lane. -/
theorem chk2_holds : k0_chk2 k0_pay7 := by
  have h : ∀ a x, ((![k0_pay7] : Fin 1 → IVec S16 32) a x).toNat < S16.size a := by decide
  exact ⟨h, h⟩

/-- Row and column of every lane lie in the 2 × 2 table. -/
theorem chk1_holds : k0_chk1 k0_pay8 k0_pay9 := by unfold k0_chk1; decide

/-- Lane 8, which every lane of the first constant gather names, is one of the sixteen. -/
theorem chk3_holds : k0_chk3 k0_pay13 := by unfold k0_chk3; decide
/-- Lane 9 is one of the sixteen. -/
theorem chk4_holds : k0_chk4 (addi k0_pay12 k0_pay14) := by unfold k0_chk4; decide
/-- Lane 10 is one of the sixteen. -/
theorem chk5_holds : k0_chk5 (k0_pay1 k0_pay12) := by unfold k0_chk5; decide
/-- Lane 11 is one of the sixteen. -/
theorem chk6_holds : k0_chk6 (k0_pay2 k0_pay12) := by unfold k0_chk6; decide

/-- The sixteen positions a trip reads lie in the task's 1024. -/
theorem chk7_holds (t : Fin k0_t1_loop.trips) : k0_chk7 (k0_pay3 (iota .scVector S16 32 [0] iota_S16_d0_w32_scVector) t) := by
  unfold k0_chk7; revert t; decide +kernel

/-! ## Where the lanes point -/

/-- Lane 8 reads the table's entry (0, 0). -/
theorem entry8 (h) : idxAt (s := S2x2) ![k0_pay8, k0_pay9] h (ix1 (8 : Fin 16)) = ix2 0 0 := by
  funext a; match a with
  | 0 => exact Fin.ext (show (k0_pay8 (ix1 (8 : Fin 16))).toNat = 0 by decide)
  | 1 => exact Fin.ext (show (k0_pay9 (ix1 (8 : Fin 16))).toNat = 0 by decide)
/-- Lane 9 reads the entry (0, 1). -/
theorem entry9 (h) : idxAt (s := S2x2) ![k0_pay8, k0_pay9] h (ix1 (9 : Fin 16)) = ix2 0 1 := by
  funext a; match a with
  | 0 => exact Fin.ext (show (k0_pay8 (ix1 (9 : Fin 16))).toNat = 0 by decide)
  | 1 => exact Fin.ext (show (k0_pay9 (ix1 (9 : Fin 16))).toNat = 1 by decide)
/-- Lane 10 reads the entry (1, 0). -/
theorem entry10 (h) : idxAt (s := S2x2) ![k0_pay8, k0_pay9] h (ix1 (10 : Fin 16)) = ix2 1 0 := by
  funext a; match a with
  | 0 => exact Fin.ext (show (k0_pay8 (ix1 (10 : Fin 16))).toNat = 1 by decide)
  | 1 => exact Fin.ext (show (k0_pay9 (ix1 (10 : Fin 16))).toNat = 0 by decide)
/-- Lane 11 reads the entry (1, 1). -/
theorem entry11 (h) : idxAt (s := S2x2) ![k0_pay8, k0_pay9] h (ix1 (11 : Fin 16)) = ix2 1 1 := by
  funext a; match a with
  | 0 => exact Fin.ext (show (k0_pay8 (ix1 (11 : Fin 16))).toNat = 1 by decide)
  | 1 => exact Fin.ext (show (k0_pay9 (ix1 (11 : Fin 16))).toNat = 1 by decide)

/-- The peer of lane 8 is lane 9. -/
theorem peer8 (h) : idxAt (s := S16) ![k0_pay7] h (ix1 (8 : Fin 16)) = ix1 (9 : Fin 16) := by
  funext a; match a with | 0 => exact Fin.ext (show (k0_pay7 (ix1 (8 : Fin 16))).toNat = 9 by decide)
/-- The peer of lane 9 is lane 8. -/
theorem peer9 (h) : idxAt (s := S16) ![k0_pay7] h (ix1 (9 : Fin 16)) = ix1 (8 : Fin 16) := by
  funext a; match a with | 0 => exact Fin.ext (show (k0_pay7 (ix1 (9 : Fin 16))).toNat = 8 by decide)
/-- The peer of lane 10 is lane 11. -/
theorem peer10 (h) : idxAt (s := S16) ![k0_pay7] h (ix1 (10 : Fin 16)) = ix1 (11 : Fin 16) := by
  funext a; match a with | 0 => exact Fin.ext (show (k0_pay7 (ix1 (10 : Fin 16))).toNat = 11 by decide)
/-- The peer of lane 11 is lane 10. -/
theorem peer11 (h) : idxAt (s := S16) ![k0_pay7] h (ix1 (11 : Fin 16)) = ix1 (10 : Fin 16) := by
  funext a; match a with | 0 => exact Fin.ext (show (k0_pay7 (ix1 (11 : Fin 16))).toNat = 10 by decide)

/-- The body gathers the probabilities by four constant vectors. Every lane of the first names lane 8. -/
theorem all8 (h) (x : S16.Idx) : idxAt (s := S16) ![k0_pay13] h x = ix1 (8 : Fin 16) := by
  funext a; match a with | 0 => exact Fin.ext (show ((k0_pay13 : IVec S16 32) x).toNat = 8 by revert x; decide)
/-- Every lane of the next constant vector names lane 9. -/
theorem all9 (h) (x : S16.Idx) : idxAt (s := S16) ![addi k0_pay12 k0_pay14] h x = ix1 (9 : Fin 16) := by
  funext a; match a with | 0 => exact Fin.ext (show ((addi k0_pay12 k0_pay14 : IVec S16 32) x).toNat = 9 by revert x; decide)
/-- Every lane of the next constant vector names lane 10. -/
theorem all10 (h) (x : S16.Idx) : idxAt (s := S16) ![k0_pay1 k0_pay12] h x = ix1 (10 : Fin 16) := by
  funext a; match a with | 0 => exact Fin.ext (show ((k0_pay1 k0_pay12 : IVec S16 32) x).toNat = 10 by revert x; decide)
/-- Every lane of the next constant vector names lane 11. -/
theorem all11 (h) (x : S16.Idx) : idxAt (s := S16) ![k0_pay2 k0_pay12] h x = ix1 (11 : Fin 16) := by
  funext a; match a with | 0 => exact Fin.ext (show ((k0_pay2 k0_pay12 : IVec S16 32) x).toNat = 11 by revert x; decide)

/-- Lane `x` of trip `t` reads position `16 t + x` of the block. -/
theorem trip_lane (t : Fin k0_t1_loop.trips) (x : S16.Idx) :
    (k0_pay3 (iota .scVector S16 32 [0] iota_S16_d0_w32_scVector) t x).toNat = 16 * t.val + (x 0).val := by
  revert t x; decide +kernel

/-! ## The vector of probabilities -/

/-- The sixteen lanes of the table `T` of logits, lane `i` holding the entry its index's two low bits name. -/
def lanes (T : Vec F S2x2 .f32) : Vec F S16 .f32 := loadIdx T ![k0_pay8, k0_pay9] (k0_idx1_inb _ _ chk1_holds)
/-- Every lane's peer. -/
def peers (v : Vec F S16 .f32) : Vec F S16 .f32 := loadIdx v ![k0_pay7] (k0_idx2_inb _ chk2_holds)
/-- The shifted exponentials. -/
def exps (T : Vec F S2x2 .f32) : Vec F S16 .f32 := k0_pay10 (F := F) (lanes T) (peers (lanes T))
/-- The probabilities. -/
def probs (T : Vec F S2x2 .f32) : Vec F S16 .f32 := k0_pay11 (F := F) (lanes T) (peers (lanes T)) (peers (exps T))

/-- A lane's exponential is shifted by the larger of the lane and its peer, -/
theorem exps_apply (T : Vec F S2x2 .f32) (x : S16.Idx) : exps T x = expTerm (lanes T x) (peers (lanes T) x) := rfl
/-- and its probability is that exponential over the sum of the two. -/
theorem probs_apply (T : Vec F S2x2 .f32) (x : S16.Idx) :
    probs T x = FloatOps.divf (exps T x) (FloatOps.addf (exps T x) (peers (exps T) x)) := rfl

/-- Lane 8 holds the table's entry (0, 0). -/
theorem lanes8 (T : Vec F S2x2 .f32) : lanes T (ix1 (8 : Fin 16)) = T (ix2 0 0) := congrArg T (entry8 _)
/-- Lane 9 holds the table's entry (0, 1). -/
theorem lanes9 (T : Vec F S2x2 .f32) : lanes T (ix1 (9 : Fin 16)) = T (ix2 0 1) := congrArg T (entry9 _)
/-- Lane 10 holds the table's entry (1, 0). -/
theorem lanes10 (T : Vec F S2x2 .f32) : lanes T (ix1 (10 : Fin 16)) = T (ix2 1 0) := congrArg T (entry10 _)
/-- Lane 11 holds the table's entry (1, 1). -/
theorem lanes11 (T : Vec F S2x2 .f32) : lanes T (ix1 (11 : Fin 16)) = T (ix2 1 1) := congrArg T (entry11 _)

/-- Lane 8 of the peers is lane 9. -/
theorem peers8 (v : Vec F S16 .f32) : peers v (ix1 (8 : Fin 16)) = v (ix1 (9 : Fin 16)) := congrArg v (peer8 _)
/-- Lane 9 of the peers is lane 8. -/
theorem peers9 (v : Vec F S16 .f32) : peers v (ix1 (9 : Fin 16)) = v (ix1 (8 : Fin 16)) := congrArg v (peer9 _)
/-- Lane 10 of the peers is lane 11. -/
theorem peers10 (v : Vec F S16 .f32) : peers v (ix1 (10 : Fin 16)) = v (ix1 (11 : Fin 16)) := congrArg v (peer10 _)
/-- Lane 11 of the peers is lane 10. -/
theorem peers11 (v : Vec F S16 .f32) : peers v (ix1 (11 : Fin 16)) = v (ix1 (10 : Fin 16)) := congrArg v (peer11 _)

/-- Lane 8: the probability of row 0's first logit. -/
theorem probs8 (T : Vec F S2x2 .f32) : probs T (ix1 (8 : Fin 16)) = prob (T (ix2 0 0)) (T (ix2 0 1)) := by
  rw [probs_apply, peers8, exps_apply, exps_apply, peers8, peers9, lanes8, lanes9]; rfl
/-- Lane 9: the probability of row 0's second logit. -/
theorem probs9 (T : Vec F S2x2 .f32) : probs T (ix1 (9 : Fin 16)) = prob (T (ix2 0 1)) (T (ix2 0 0)) := by
  rw [probs_apply, peers9, exps_apply, exps_apply, peers8, peers9, lanes8, lanes9]; rfl
/-- Lane 10: the probability of row 1's first logit. -/
theorem probs10 (T : Vec F S2x2 .f32) : probs T (ix1 (10 : Fin 16)) = prob (T (ix2 1 0)) (T (ix2 1 1)) := by
  rw [probs_apply, peers10, exps_apply, exps_apply, peers10, peers11, lanes10, lanes11]; rfl
/-- Lane 11: the probability of row 1's second logit. -/
theorem probs11 (T : Vec F S2x2 .f32) : probs T (ix1 (11 : Fin 16)) = prob (T (ix2 1 1)) (T (ix2 1 0)) := by
  rw [probs_apply, peers11, exps_apply, exps_apply, peers10, peers11, lanes10, lanes11]; rfl

end Cert.Proof.Emission

end
-- ==== Proof.Common.lean ====
/-
  The program as the launch theorem of Lib/SparseCore/Quiescent.lean sees it: its labels, its one SparseCore call, the resource
  algebra (the handshakes' rounds beside the counters of the tiles' own transfers), and the arrays. Everything is over any float
  values `F`.
-/
module

public import proofs.«01_k».proof.Defs
public import proofs.«01_k».proof.Proof.Lanes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.Emission

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

abbrev EH : Emb UH (MT nD τ sig (HIx 1) (Elt F) ℕ UU ℕ) := embL

/-! ## The arrays -/

/-- The index sequence (the first argument), the table of logits (the second), the kernel's output, and the program's result. -/
abbrev xLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

end Cert.Proof.Emission

end
-- ==== Proof.Pieces.lean ====
/-
  Which elements of the arrays a task works on. Task `i` reads positions 1024 i … 1024 i + 1023 of the index sequence and writes the
  same positions of both rows of the output; the sixteen blocks of positions are disjoint and cover the arrays, and so do the 2 × 16
  pieces of the output.
-/
module

public import proofs.«01_k».proof.Proof.Common

@[expose] public section

noncomputable section

namespace Cert.Proof.Emission

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem

variable {F : FTy → Type}

local notation "𝕄" => MT nD τ sig (HIx 1) (Elt F) ℕ UU ℕ

/-! ## The pieces, by their coordinates -/

/-- The positions of task `i`. -/
def xPiece (i : Fin 16) : Finset S16384.Idx := Finset.univ.filter fun j => (j 0).val / 1024 = i.val
/-- The positions of task `i` in row `s` of the output. -/
def oPiece (s : Fin 2) (i : Fin 16) : Finset S2x16384.Idx := Finset.univ.filter fun j => (j 0).val = s.val ∧ (j 1).val / 1024 = i.val
/-- The positions of task `i` in both rows. -/
def oBlock (i : Fin 16) : Finset S2x16384.Idx := Finset.univ.filter fun j => (j 1).val / 1024 = i.val

/-- Two tasks share no position of the index sequence, -/
theorem xPiece_disjoint : ∀ i ∈ (Finset.univ : Finset (Fin 16)), ∀ j ∈ (Finset.univ : Finset (Fin 16)), i ≠ j → Disjoint (xPiece i) (xPiece j) :=
  fun i _ j _ h => Finset.disjoint_left.mpr fun x hi hj => h (Fin.ext ((Finset.mem_filter.mp hi).2.symm.trans (Finset.mem_filter.mp hj).2))

/-- and every position is some task's. -/
theorem xPiece_cover : (Finset.univ : Finset (Fin 16)).biUnion xPiece = Finset.univ := by
  ext x
  have hx : (x 0).val < 16384 := (x 0).isLt
  simp only [Finset.mem_biUnion, Finset.mem_univ, true_and, iff_true]
  exact ⟨⟨(x 0).val / 1024, by omega⟩, Finset.mem_filter.mpr ⟨Finset.mem_univ _, rfl⟩⟩

/-- Two tasks share no position of the output, -/
theorem oBlock_disjoint : ∀ i ∈ (Finset.univ : Finset (Fin 16)), ∀ j ∈ (Finset.univ : Finset (Fin 16)), i ≠ j → Disjoint (oBlock i) (oBlock j) :=
  fun i _ j _ h => Finset.disjoint_left.mpr fun x hi hj => h (Fin.ext ((Finset.mem_filter.mp hi).2.symm.trans (Finset.mem_filter.mp hj).2))

/-- and every position is some task's. -/
theorem oBlock_cover : (Finset.univ : Finset (Fin 16)).biUnion oBlock = Finset.univ := by
  ext x
  have hx : (x 1).val < 16384 := (x 1).isLt
  simp only [Finset.mem_biUnion, Finset.mem_univ, true_and, iff_true]
  exact ⟨⟨(x 1).val / 1024, by omega⟩, Finset.mem_filter.mpr ⟨Finset.mem_univ _, rfl⟩⟩

/-- A task's positions in row 0 and in row 1 are apart, -/
theorem oPiece_disjoint (i : Fin 16) : Disjoint (oPiece 0 i) (oPiece 1 i) :=
  Finset.disjoint_left.mpr fun x h0 h1 => absurd ((Finset.mem_filter.mp h0).2.1.symm.trans (Finset.mem_filter.mp h1).2.1) (by decide)

/-- and together are its block. -/
theorem oPiece_union (i : Fin 16) : oPiece 0 i ∪ oPiece 1 i = oBlock i := by
  ext x
  have hx : (x 0).val < 2 := (x 0).isLt
  simp only [oPiece, oBlock, Finset.mem_union, Finset.mem_filter, Finset.mem_univ, true_and]
  constructor
  · rintro (h | h) <;> exact h.2
  · intro h
    rcases (show (x 0).val = 0 ∨ (x 0).val = 1 by omega) with h0 | h0
    · exact .inl ⟨h0, h⟩
    · exact .inr ⟨h0, h⟩

/-! ## Splitting the arrays -/

/-- The index sequence whole is its sixteen blocks. -/
theorem x_split (d : Dev nD) (f : Buf (Elt F) (xLoc d)) :
    (xLoc d ↦{fullShare} f : sProp 𝕄) = bigSep Finset.univ fun i : Fin 16 => xLoc d ↦[xPiece i]{fullShare} f := by
  rw [← pointsTo_biUnion Finset.univ (ℓ := xLoc d) xPiece xPiece_disjoint, xPiece_cover]; try rfl

/-- The output whole is, block by block, its two rows' pieces. -/
theorem o_split (d : Dev nD) (f : Buf (Elt F) (oLoc d)) :
    (oLoc d ↦{fullShare} f : sProp 𝕄)
      = bigSep Finset.univ fun i : Fin 16 => iprop((oLoc d ↦[oPiece 0 i]{fullShare} f) ∗ oLoc d ↦[oPiece 1 i]{fullShare} f) := by
  rw [show (oLoc d ↦{fullShare} f : sProp 𝕄) = bigSep Finset.univ fun i : Fin 16 => oLoc d ↦[oBlock i]{fullShare} f by
    rw [← pointsTo_biUnion Finset.univ (ℓ := oLoc d) oBlock oBlock_disjoint, oBlock_cover]; try rfl]
  refine bigSep_congr fun i _ => ?_
  have h : (oLoc d ↦[oBlock i]{fullShare} f : sProp 𝕄) = oLoc d ↦[oPiece 0 i ∪ oPiece 1 i]{fullShare} f := by rw [oPiece_union]
  exact h.trans (BI.Entails.antisymm (pointsTo_union (oPiece_disjoint i)).1 (pointsTo_union (oPiece_disjoint i)).2)

/-- Task `i`'s share of the table of logits, which every task reads. -/
abbrev lShare (i : Fin 16) : PosShare TreeShare := ShareLeaves.leaf 4 fullShare i

/-- The table held outright is its sixteen shares. -/
theorem l_split (d : Dev nD) (f : Buf (Elt F) (lLoc d)) :
    (lLoc d ↦{fullShare} f : sProp 𝕄) = bigSep Finset.univ fun i : Fin 16 => lLoc d ↦{lShare i} f :=
  ShareLeaves.pointsTo_leaves Finset.univ f 4 fullShare

/-! ## The views the body names -/

section Views

variable (L : grid0.Coords)

/-- There are sixteen tiles. -/
theorem bound_tiles : grid0.bound 1 = 16 := rfl
/-- The task's number: its tile. -/
abbrev task : Fin 16 := Fin.cast bound_tiles (L 1)

/-- The call runs on one SparseCore, number 0. -/
theorem core_zero : (L 0).val = 0 := by
  have h : (L 0).val < grid0.bound 0 := (L 0).isLt
  have h1 : grid0.bound 0 = 1 := rfl
  omega

/-- The block of the index sequence the task fetches. -/
abbrev xView : Memref sig .scVector .hbm S1024 .i32 :=
  (Memref.whole main_arg0_scv).slice (Rect.unit (s := S16384) (k0_off1 L) S1024.size (k0_off1_inb L)) (fun _ => rfl)
/-- The rectangles of the output the task writes: its positions in row 0, and in row 1. -/
abbrev oRect0 : Rect S2x16384 := Rect.unit (s := S2x16384) (k0_off4 L) S1x1024.size (k0_off4_inb L)
abbrev oRect1 : Rect S2x16384 := Rect.unit (s := S2x16384) (k0_off5 L) S1x1024.size (k0_off5_inb L)
/-- The piece of row 0 of the output the task writes, -/
abbrev oView0 : Memref sig .scVector .hbm S1024 .f32 :=
  ((Memref.whole main_v0_scv).slice (oRect0 L) (fun _ => rfl)).squeeze S1024 squeezes_S1x1024_S1024
/-- and of row 1. -/
abbrev oView1 : Memref sig .scVector .hbm S1024 .f32 :=
  ((Memref.whole main_v0_scv).slice (oRect1 L) (fun _ => rfl)).squeeze S1024 squeezes_S1x1024_S1024

/-- The block fetched is the task's piece of the sequence. -/
theorem xView_set : (xView L).view.set = xPiece (task L) := by
  show ((View.whole (main_arg0_scv : Ref sig .scVector)).slice _).set = _
  rw [View.set_slice_whole]
  ext j
  have h0 := core_zero L
  rw [Rect.mem_set_unit, k0_off1_eq]
  simp only [xPiece, Finset.mem_filter, Finset.mem_univ, true_and, Fin.val_cast]
  constructor
  · intro h
    have h := h 0
    simp at h
    omega
  · intro h a
    match a with
    | 0 => simp; omega

/-- The piece written in row 0 is the task's. -/
theorem oView0_set : (oView0 L).view.set = oPiece 0 (task L) := by
  show (((View.whole (main_v0_scv : Ref sig .scVector)).slice (oRect0 L)).reshape S1024 squeezes_S1x1024_S1024.numel_eq).set = _
  rw [View.set_reshape, View.set_slice_whole]
  ext j
  have h0 := core_zero L
  rw [Rect.mem_set_unit, k0_off4_eq]
  simp only [oPiece, Finset.mem_filter, Finset.mem_univ, true_and, Fin.val_cast]
  constructor
  · intro h
    have ha := h 0
    have hb := h 1
    simp at ha hb
    constructor
    · simp [ha]
    · omega
  · rintro ⟨ha, hb⟩ a
    match a with
    | 0 => simp at ha; simp [ha]
    | 1 => simp; omega

/-- The piece written in row 1 is the task's. -/
theorem oView1_set : (oView1 L).view.set = oPiece 1 (task L) := by
  show (((View.whole (main_v0_scv : Ref sig .scVector)).slice (oRect1 L)).reshape S1024 squeezes_S1x1024_S1024.numel_eq).set = _
  rw [View.set_reshape, View.set_slice_whole]
  ext j
  have h0 := core_zero L
  rw [Rect.mem_set_unit, k0_off5_eq]
  simp only [oPiece, Finset.mem_filter, Finset.mem_univ, true_and, Fin.val_cast]
  constructor
  · intro h
    have ha := h 0
    have hb := h 1
    simp at ha hb
    constructor
    · simp; omega
    · omega
  · rintro ⟨ha, hb⟩ a
    match a with
    | 0 => simp at ha; simp [ha]
    | 1 => simp; omega

/-- Position `k` of task `i`'s block. -/
def pos (i : Fin 16) (k : Fin 1024) : Fin 16384 := ⟨1024 * i.val + k.val, by omega⟩

/-- Word `k` of the fetched block is the sequence's at the task's position `k`. -/
theorem xView_emb (k : Fin 1024) : (xView L).view.emb (ix1 k) = ix1 (pos (task L) k) := by
  have h0 := core_zero L
  refine funext fun (a : Fin 1) => ?_
  match a with
  | 0 =>
    refine Fin.ext ?_
    show k0_off1 L 0 + 1 * k.val = 1024 * (L 1).val + k.val
    rw [k0_off1_eq]
    simp; omega

/-- The one row of a piece of the output, read as a vector. -/
theorem row_index (k : Fin 1024) : Shape.reshapeEquiv squeezes_S1x1024_S1024.numel_eq (ix1 k : S1024.Idx) = (ix2 0 k : S1x1024.Idx) := by
  refine Shape.reshapeEquiv_eq_of_rowMajor _ ?_
  rw [Shape.rowMajor_val_one, Shape.rowMajor_val_two]
  simp

/-- Word `k` of the first copy out lands in row 0 at the task's position `k`, -/
theorem oView0_emb (k : Fin 1024) : (oView0 L).view.emb (ix1 k) = ix2 0 (pos (task L) k) := by
  have h0 := core_zero L
  show (oRect0 L).emb (Shape.reshapeEquiv squeezes_S1x1024_S1024.numel_eq (ix1 k)) = _
  rw [row_index]
  refine funext fun (a : Fin 2) => Fin.ext ?_
  match a with
  | 0 =>
    show k0_off4 L 0 + 1 * 0 = 0
    rw [k0_off4_eq]; rfl
  | 1 =>
    show k0_off4 L 1 + 1 * k.val = 1024 * (L 1).val + k.val
    rw [k0_off4_eq]
    simp; omega

/-- and word `k` of the second in row 1. -/
theorem oView1_emb (k : Fin 1024) : (oView1 L).view.emb (ix1 k) = ix2 1 (pos (task L) k) := by
  have h0 := core_zero L
  show (oRect1 L).emb (Shape.reshapeEquiv squeezes_S1x1024_S1024.numel_eq (ix1 k)) = _
  rw [row_index]
  refine funext fun (a : Fin 2) => Fin.ext ?_
  match a with
  | 0 =>
    show k0_off5 L 0 + 1 * 0 = 1
    rw [k0_off5_eq]; rfl
  | 1 =>
    show k0_off5 L 1 + 1 * k.val = 1024 * (L 1).val + k.val
    rw [k0_off5_eq]
    simp; omega

/-- A position of task `i`'s piece of row `s` is one of the block's 1024. -/
theorem mem_oPiece {s : Fin 2} {i : Fin 16} {j : S2x16384.Idx} (h : j ∈ oPiece s i) : ∃ k : Fin 1024, j = ix2 s (pos i k) := by
  obtain ⟨-, h0, h1⟩ := Finset.mem_filter.mp h
  refine ⟨⟨(j 1).val - 1024 * i.val, by omega⟩, ?_⟩
  refine funext fun (a : Fin 2) => Fin.ext ?_
  match a with
  | 0 => exact h0
  | 1 => show (j 1).val = 1024 * i.val + ((j 1).val - 1024 * i.val); omega

end Views

end Cert.Proof.Emission

end
-- ==== Proof.Trip.lean ====
/-
  One trip of the body's loop, as a fact about the contents of the two scratch buffers it reads and writes: trip `t` puts sixteen entries
  of either row of the output in place, so after the sixty-four trips both halves of the row buffer are the task's pieces of the output.
-/
module

public import proofs.«01_k».proof.Proof.Lanes
public import Idealize.ShloMosaic.Lib.WritesUnit

@[expose] public section

noncomputable section

namespace Cert.Proof.Emission

open Cert.KernelIdeal Cert.KernelIdeal.Gen
open Idealize.ShloMosaic Idealize.ShloMosaic.ValueIdx

variable {F : FTy → Type} [FloatOps F]

/-- After `n` trips the first `16 n` positions of either half of the row buffer `g` hold what the task's index words `w` pick in the
    table's two rows. -/
def Done (w : Vec F S1024 .i32) (T : Vec F S2x2 .f32) (n : ℕ) (g : Vec F S2048 .f32) : Prop :=
  ∀ k : Fin 1024, k.val < 16 * n →
    g (ix1 (⟨k.val, by omega⟩ : Fin 2048)) = pick (w (ix1 k)) (T (ix2 0 0)) (T (ix2 0 1))
      ∧ g (ix1 (⟨k.val + 1024, by omega⟩ : Fin 2048)) = pick (w (ix1 k)) (T (ix2 1 0)) (T (ix2 1 1))

/-- Before the first trip nothing is claimed. -/
theorem Done.zero (w : Vec F S1024 .i32) (T : Vec F S2x2 .f32) (g : Vec F S2048 .f32) : Done w T 0 g :=
  fun k hk => absurd hk (by omega)

/-- The entry chosen by a lane's index word: the first vector's for the word 0, the second's for any other, -/
theorem pay5_apply (a b : Vec F S16 .f32) (w : Vec F S16 .i32) (x : S16.Idx) :
    k0_pay5 a b w x = if (w x : BitVec 32) = 0#32 then a x else b x := by
  unfold k0_pay5 k0_pay4
  simp only [select, cmpi, broadcast, Scalar.select, IntOp.cmpi]
  by_cases h : (w x : BitVec 32) = 0#32
  · rw [if_pos h, h]; rfl
  · have hb : ((w x : BitVec 32) == 0#32) = false := beq_eq_false_iff_ne.mpr h
    rw [if_neg h, hb]; rfl
/-- in either row. -/
theorem pay6_apply (a b : Vec F S16 .f32) (w : Vec F S16 .i32) (x : S16.Idx) :
    k0_pay6 a b w x = if (w x : BitVec 32) = 0#32 then a x else b x := by
  unfold k0_pay6 k0_pay4
  simp only [select, cmpi, broadcast, Scalar.select, IntOp.cmpi]
  by_cases h : (w x : BitVec 32) = 0#32
  · rw [if_pos h, h]; rfl
  · have hb : ((w x : BitVec 32) == 0#32) = false := beq_eq_false_iff_ne.mpr h
    rw [if_neg h, hb]; rfl

/-- The index words trip `t` reads. -/
def words (w : Vec F S1024 .i32) (t : Fin k0_t1_loop.trips) : Vec F S16 .i32 :=
  loadIdx w ![k0_pay3 (iota .scVector S16 32 [0] iota_S16_d0_w32_scVector) t] (k0_idx8_inb _ (chk7_holds t))

/-- Lane `x` of them is word `16 t + x` of the block. -/
theorem words_apply (w : Vec F S1024 .i32) (t : Fin k0_t1_loop.trips) (x : Fin 16) (k : Fin 1024) (h : k.val = 16 * t.val + x.val) :
    words w t (ix1 x) = w (ix1 k) := by
  refine congrArg w ?_
  funext a; match a with
  | 0 => exact Fin.ext ((trip_lane t (ix1 x)).trans h.symm)

/-- The four vectors the loop chooses from are the four probabilities, in every lane. -/
structure Rows (T : Vec F S2x2 .f32) (v29 v32 v35 v38 : Vec F S16 .f32) : Prop where
  r00 : ∀ x, v29 x = prob (T (ix2 0 0)) (T (ix2 0 1))
  r01 : ∀ x, v32 x = prob (T (ix2 0 1)) (T (ix2 0 0))
  r10 : ∀ x, v35 x = prob (T (ix2 1 0)) (T (ix2 1 1))
  r11 : ∀ x, v38 x = prob (T (ix2 1 1)) (T (ix2 1 0))

/-- A trip's two stores extend what is done by sixteen positions in either half. -/
theorem Done.step {w : Vec F S1024 .i32} {T : Vec F S2x2 .f32} {v29 v32 v35 v38 : Vec F S16 .f32} (hr : Rows T v29 v32 v35 v38)
    (t : Fin k0_t1_loop.trips) (g : Vec F S2048 .f32) (hg : Done w T t.val g) :
    Done w T (t.val + 1) ((Memref.whole cc0_scratch3).view.writes (Elt F) g
      [⟨Rect.unit (s := S2048) (k0_off3 t) S16.size (k0_off3_inb t), k0_pay6 v35 v38 (words w t)⟩,
       ⟨Rect.unit (s := S2048) (k0_off2 t) S16.size (k0_off2_inb t), k0_pay5 v29 v32 (words w t)⟩]) := by
  have ht : t.val < 64 := t.isLt
  intro k hk
  have rd : ∀ (f : Vec F S2048 .f32) (y : S2048.Idx), (Memref.whole cc0_scratch3).view.read (Elt F) f y = f y := fun _ _ => rfl
  by_cases hlt : k.val < 16 * t.val
  · obtain ⟨h0, h1⟩ := hg k hlt
    refine ⟨(rd _ _).symm.trans ?_, (rd _ _).symm.trans ?_⟩
    · rw [View.read_writes_cons_unit_of_not_mem _ _ _ _ _ _ (k0_off3_eq t) (0 : Fin 1) (.inl (by show k.val < 16 * t.val + 1024; omega)),
        View.read_writes_cons_unit_of_not_mem _ _ _ _ _ _ (k0_off2_eq t) (0 : Fin 1) (.inl (by show k.val < 16 * t.val; omega))]
      exact h0
    · rw [View.read_writes_cons_unit_of_not_mem _ _ _ _ _ _ (k0_off3_eq t) (0 : Fin 1) (.inl (by show k.val + 1024 < 16 * t.val + 1024; omega)),
        View.read_writes_cons_unit_of_not_mem _ _ _ _ _ _ (k0_off2_eq t) (0 : Fin 1) (.inr (by show 16 * t.val + 16 ≤ k.val + 1024; omega))]
      exact h1
  · have hx : k.val = 16 * t.val + (⟨k.val - 16 * t.val, by omega⟩ : Fin 16).val := by simp; omega
    generalize (⟨k.val - 16 * t.val, by omega⟩ : Fin 16) = x at hx
    have hw := words_apply w t x k hx
    refine ⟨(rd _ _).symm.trans ?_, (rd _ _).symm.trans ?_⟩
    · refine (View.read_writes_cons_unit_of_not_mem (s := S2048) _ _ _ _ _ _ (k0_off3_eq t) (0 : Fin 1) (.inl (by show k.val < 16 * t.val + 1024; omega))).trans ?_
      refine (View.read_writes_cons_unit_of_mem (s := S2048) _ _ _ _ _ _ (ix1 x) (k0_off2_eq t) (fun a => match a with | (0 : Fin 1) => hx)).trans ?_
      rw [pay5_apply, hr.r00, hr.r01, hw]
      rfl
    · refine (View.read_writes_cons_unit_of_mem (s := S2048) _ _ _ _ _ _ (ix1 x) (k0_off3_eq t)
        (fun a => match a with | (0 : Fin 1) => (by show k.val + 1024 = 16 * t.val + 1024 + x.val; omega))).trans ?_
      rw [pay6_apply, hr.r10, hr.r11, hw]
      rfl

end Cert.Proof.Emission

end
-- ==== Proof.Lands.lean ====
/-
  What a task's transfers land, read at an index: the fetched table and index words, and the two pieces of the output.
-/
module

public import proofs.«01_k».proof.Proof.Pieces
public import proofs.«01_k».proof.Proof.Trip

@[expose] public section

noncomputable section

namespace Cert.Proof.Emission

open Cert.KernelIdeal Cert.KernelIdeal.Gen

open Idealize.ShloMosaic Idealize.ShloMosaic.ValueIdx

variable {F : FTy → Type} [FloatOps F]

/-- The index words a task fetches are its block of the sequence. -/
def block (x : Vec F S16384 .i32) (i : Fin 16) : Vec F S1024 .i32 := fun k => x (ix1 (pos i (k 0)))

/-- What the fetched view reads is that block. -/
theorem xView_read (L : grid0.Coords) (x : Vec F S16384 .i32) : (xView L).view.read (Elt F) x = block x (task L) := by
  funext k
  rw [eq_ix1 k]
  exact congrArg x (xView_emb L (k 0))

/-- The two halves of the row buffer, -/
theorem half0_read (g : Vec F S2048 .f32) (inb) (hs) (k : Fin 1024) :
    ((Memref.whole cc0_scratch3).slice (Rect.unit (s := S2048) ![0] S1024.size inb) hs).view.read (Elt F) g (ix1 k)
      = g (ix1 (⟨k.val, by omega⟩ : Fin 2048)) := by
  refine congrArg g ?_
  refine funext fun (a : Fin 1) => Fin.ext ?_
  match a with
  | 0 => show 0 + 1 * k.val = k.val; omega
/-- which hold what the output's rows get. -/
theorem half1_read (g : Vec F S2048 .f32) (inb) (hs) (k : Fin 1024) :
    ((Memref.whole cc0_scratch3).slice (Rect.unit (s := S2048) ![1024] S1024.size inb) hs).view.read (Elt F) g (ix1 k)
      = g (ix1 (⟨k.val + 1024, by omega⟩ : Fin 2048)) := by
  refine congrArg g ?_
  refine funext fun (a : Fin 1) => Fin.ext ?_
  match a with
  | 0 => show 1024 + 1 * k.val = k.val + 1024; omega

/-- With the row buffer done, the piece of row 0 written from its first half holds the output's values, -/
theorem lands0 (L : grid0.Coords) {x : Vec F S16384 .i32} {T : Vec F S2x2 .f32} {g : Vec F S2048 .f32} (hg : Done (block x (task L)) T 64 g)
    (f : Vec F S2x16384 .f32) (p : Vec F S1024 .f32) (hp : ∀ k : Fin 1024, p (ix1 k) = g (ix1 (⟨k.val, by omega⟩ : Fin 2048))) :
    ∀ j ∈ oPiece 0 (task L), (oView0 L).view.writes (Elt F) f [⟨Rect.whole S1024, p⟩] j = outVal x T j := by
  intro j hj
  obtain ⟨k, rfl⟩ := mem_oPiece hj
  have h := View.read_writes_cons_emb (oView0 L).view f (Rect.whole S1024) p [] (ix1 k)
  rw [Rect.emb_whole_apply, hp, (hg k (by omega)).1] at h
  rw [← oView0_emb L k]
  refine Eq.trans (Eq.trans rfl h) ?_
  rw [oView0_emb]
  rfl

/-- and the piece of row 1 from its second. -/
theorem lands1 (L : grid0.Coords) {x : Vec F S16384 .i32} {T : Vec F S2x2 .f32} {g : Vec F S2048 .f32} (hg : Done (block x (task L)) T 64 g)
    (f : Vec F S2x16384 .f32) (p : Vec F S1024 .f32) (hp : ∀ k : Fin 1024, p (ix1 k) = g (ix1 (⟨k.val + 1024, by omega⟩ : Fin 2048))) :
    ∀ j ∈ oPiece 1 (task L), (oView1 L).view.writes (Elt F) f [⟨Rect.whole S1024, p⟩] j = outVal x T j := by
  intro j hj
  obtain ⟨k, rfl⟩ := mem_oPiece hj
  have h := View.read_writes_cons_emb (oView1 L).view f (Rect.whole S1024) p [] (ix1 k)
  rw [Rect.emb_whole_apply, hp, (hg k (by omega)).2] at h
  rw [← oView1_emb L k]
  refine Eq.trans (Eq.trans rfl h) ?_
  rw [oView1_emb]
  rfl

end Cert.Proof.Emission

end
-- ==== Proof.Tile.lean ====
/-
  One task of the kernel.
-/
module

public import proofs.«01_k».proof.Proof.Lands
public import Idealize.ShloMosaic.Lib.VecWindow

@[expose] public section

noncomputable section

namespace Cert.Proof.Emission

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a task owns -/

section Own

variable (d : Dev nD) (L : grid0.Coords)

/-- The SparseCore and the tile the task runs on, and its thread. -/
abbrev coreOf : Fin τ.nSC := (L 0).castLE hcore0
abbrev tileOf : Fin τ.nSub := (L 1).castLE hsub0
abbrev thr : Thread nD τ := V d (coreOf L) (tileOf L)

/-- The four semaphores its copies complete on. -/
abbrev cell0 : GSem nD τ sig := (thr d L, .dma cc0_scoped0.sem)
abbrev cell1 : GSem nD τ sig := (thr d L, .dma cc0_scoped1.sem)
abbrev cell2 : GSem nD τ sig := (thr d L, .dma cc0_scoped2.sem)
abbrev cell3 : GSem nD τ sig := (thr d L, .dma cc0_scoped3.sem)

/-- The cells a task owns: the four its transfers complete on, and the rest. -/
theorem ownSems0_tile :
    (ownSems0 (thr d L) : sProp 𝕄)
      = iprop(semVal (cell0 d L) 0 ∗ semVal (cell1 d L) 0 ∗ semVal (cell2 d L) 0 ∗ semVal (cell3 d L) 0
          ∗ bigSep (((((ownCells (thr d L)).erase (cell0 d L)).erase (cell1 d L)).erase (cell2 d L)).erase (cell3 d L)) fun g => semVal g 0) := by
  have own : ∀ s : DmaSem sig, (SemLoc.dma s : SemLoc sig).isScoped .scVector = true → ((thr d L, .dma s) : GSem nD τ sig) ∈ ownCells (thr d L) :=
    fun s h => mem_ownCells.mpr ⟨rfl, h⟩
  have ne : ∀ s t : DmaSem sig, s ≠ t → ((thr d L, .dma s) : GSem nD τ sig) ≠ (thr d L, .dma t) :=
    fun s t h e => h (by injection e with _ e; injection e)
  unfold SparseCore.Cfg.ownSems0
  rw [SparseCore.bigSep_erase' (own cc0_scoped0.sem (by decide)),
    SparseCore.bigSep_erase' (Finset.mem_erase.mpr ⟨ne _ _ (by decide), own cc0_scoped1.sem (by decide)⟩),
    SparseCore.bigSep_erase' (Finset.mem_erase.mpr ⟨ne _ _ (by decide), Finset.mem_erase.mpr ⟨ne _ _ (by decide), own cc0_scoped2.sem (by decide)⟩⟩),
    SparseCore.bigSep_erase' (Finset.mem_erase.mpr ⟨ne _ _ (by decide), Finset.mem_erase.mpr ⟨ne _ _ (by decide),
      Finset.mem_erase.mpr ⟨ne _ _ (by decide), own cc0_scoped3.sem (by decide)⟩⟩⟩)]

/-- The tile's name of one of its scratch buffers. -/
abbrev scratch (b : Ref sig .scVector) : DevRef τ sig := (Proc.scVector (coreOf L) (tileOf L)).devRef b

/-- The buffers a task owns: its four scratches, at some contents, and the rest. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (coreOf L) (tileOf L))).erase (scratch L cc0_scratch0)).erase (scratch L cc0_scratch1)).erase
              (scratch L cc0_scratch2)).erase (scratch L cc0_scratch3))
              fun b => iprop(∃ f, ((d, b) : Loc nD τ sig) ↦{fullShare} f)) := by
  have own : ∀ b : Ref sig .scVector, (scratch L b).owner = Owner.proc (Proc.scVector (coreOf L) (tileOf L)) → scratch L b ∈ ownRefs (τ := τ) (.scVector (coreOf L) (tileOf L)) :=
    fun b h => SparseCore.Cfg.mem_ownRefs_of_owner h
  have ne : ∀ a b : Ref sig .scVector, a ≠ b → scratch L a ≠ scratch L b := fun a b h e => h (Proc.devRef_injective _ e)
  unfold SparseCore.Cfg.ownBufs
  refine (SparseCore.bigSep_erase' (own cc0_scratch0 rfl)).trans ?_
  rw [SparseCore.bigSep_erase' (Finset.mem_erase.mpr ⟨ne _ _ (by decide), own cc0_scratch1 rfl⟩),
    SparseCore.bigSep_erase' (Finset.mem_erase.mpr ⟨ne _ _ (by decide), Finset.mem_erase.mpr ⟨ne _ _ (by decide), own cc0_scratch2 rfl⟩⟩),
    SparseCore.bigSep_erase' (Finset.mem_erase.mpr ⟨ne _ _ (by decide), Finset.mem_erase.mpr ⟨ne _ _ (by decide),
      Finset.mem_erase.mpr ⟨ne _ _ (by decide), own cc0_scratch3 rfl⟩⟩⟩)]

end Own

variable [FloatOps F]

variable (m : (ℓ : Loc nD τ sig) → Buf (Elt F) ℓ)

/-! ## What a task is handed and hands back -/

/-- Task `i` is handed its block of the index sequence, its share of the table of logits, and its pieces of the output's two rows. -/
abbrev xPts (d : Dev nD) (i : Fin 16) : sProp 𝕄 := xLoc d ↦[xPiece i]{fullShare} m (xLoc d)
abbrev lPts (d : Dev nD) (i : Fin 16) : sProp 𝕄 := lLoc d ↦{lShare i} m (lLoc d)
abbrev oPts (d : Dev nD) (i : Fin 16) (f : Buf (Elt F) (oLoc d)) : sProp 𝕄 := iprop((oLoc d ↦[oPiece 0 i]{fullShare} f) ∗ oLoc d ↦[oPiece 1 i]{fullShare} f)

/-- The output the launch memory determines. -/
def outOf (d : Dev nD) : Buf (Elt F) (oLoc d) := outVal (F := F) (m (xLoc d)) (m (lLoc d))

section Tile

variable (d : Dev nD) (L : grid0.Coords)

/-- The loop's invariant: the index words stay, and the row buffer is done up to the trip. -/
def inv (T : Vec F S2x2 .f32) (fx : Buf (Elt F) ((thr d L).loc cc0_scratch2)) (n : ℕ) (_ : PUnit) : sProp 𝕄 :=
  iprop(((Memref.whole cc0_scratch2).view.loc (thr d L) ↦{fullShare} fx)
    ∗ ∃ g : Buf (Elt F) ((thr d L).loc cc0_scratch3), ⌜Done (F := F) fx T n g⌝ ∗ (Memref.whole cc0_scratch3).view.loc (thr d L) ↦{fullShare} g)

/-- One trip takes the invariant at `k` to the invariant at `k + 1`. -/
theorem trip (T : Vec F S2x2 .f32) (fx : Buf (Elt F) ((thr d L).loc cc0_scratch2)) {v29 v32 v35 v38 : Vec F S16 .f32} (hr : Rows T v29 v32 v35 v38)
    (k : Fin k0_t1_loop.trips) (u : PUnit) :
    inv d L T fx k.val u
      ⊢ wp frame (wpE (defs₀ (F := F)) 𝒱₀ (thr d L) none) Set.univ
          (k0_t1_body L (Memref.whole main_arg1_scv) (Memref.isWhole_whole _) (Memref.whole main_arg0_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3
            (iota .scVector S16 32 [0] iota_S16_d0_w32_scVector) v29 v32 v35 v38 k u)
          fun u' => inv d L T fx (k.val + 1) u' := by
  have hc7 := chk7_holds k
  unfold k0_t1_body SparseCore.vectorLoadIdx
  unfold inv
  iintro ⟨Hx, %g, %hg, Ho⟩
  sl_exec
  sl_step
  isplitl [Hx]; · iexact Hx
  iexists _; isplitr
  swap; · iexact Ho
  ipureintro
  have hread : View.readAt (Elt F) (Memref.whole cc0_scratch2).view (LoadRect.whole S1024) fx = fx := Memref.readAt_whole _ _ _
  rw [hread]
  exact Done.step hr k g hg

/-- The vector scratch read whole after a store of the whole of it reads what was stored. -/
theorem readBack [∀ e, Nonempty (Elt F e)] (inb : ∀ a, (![0] : Fin 1 → ℕ) a + S16.size a ≤ S16.size a)
    (w : (Rect.unit (s := S16) ![0] S16.size inb).shape.Idx → Elt F .f32) (Ls : List (View.Piece (Elt F) S16 .f32)) :
    View.readCov (Val := Elt F) (Memref.whole cc0_scratch0).view (⟨Rect.unit (s := S16) ![0] S16.size inb, w⟩ :: Ls) (LoadRect.whole S16) = w :=
  View.readCov_full (Val := Elt F) (Memref.whole cc0_scratch0).view (off := fun _ => 0) (fun _ => by simp) inb w Ls

/-- One task: from its block of the indices, its share of the table and its pieces of the output, whatever those hold, its program ends with
    the two inputs as they were, the pieces at `outOf`, and its scratch and semaphores handed back. -/
theorem tile_body (O : CellTallies nD τ sig (HIx 1)) (W : Waits sig (HIx 1)) (hO : ∀ g, O g none = 0) :
    iprop(levAts (K (F := F)).L (K (F := F)).lev ∗ emp
        ∗ (xPts m d (task L) ∗ lPts m d (task L) ∗ oPts d (task L) (m (oLoc d)))
        ∗ scopedBufs (thr d L) ∗ scopedSems0 (thr d L) ∗ owes (thr d L) O W)
      ⊢ wp frame (wpE (defs₀ (F := F)) 𝒱₀ (thr d L) none) Set.univ
          (cc0__emission_sc L (Memref.whole main_arg1_scv) (Memref.isWhole_whole _) (Memref.whole main_arg0_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3)
          fun _ => iprop((xPts m d (task L) ∗ lPts m d (task L) ∗ oPts d (task L) (outOf m d))
            ∗ scopedBufs (thr d L) ∗ scopedSems0 (thr d L)
            ∗ ∃ W', ⌜∀ p ∈ W', p ∈ W ∨ p.2 = none⌝ ∗ owes (thr d L) O W') := by
  simp only [cc0__emission_sc_eq_skeleton]; unfold cc0__emission_sc_skel
  simp only [k0_part1_eq_skeleton]; unfold k0_part1_skel
  rw [(K (F := F)).scopedBufs_V facts d (coreOf L) (tileOf L), SparseCore.Cfg.scopedSems0_V (Val := Elt F) d (coreOf L) (tileOf L), ownSems0_tile, ownBufs_tile]
  iintro ⟨#Hlv, -, ⟨Hx, Hl, Ho0, Ho1⟩, ⟨⟨%f0, H0⟩, ⟨%f1, H1⟩, ⟨%f2, H2⟩, ⟨%f3, H3⟩, Hbufs⟩, ⟨Hc0, Hc1, Hc2, Hc3, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (show xPts m d (task L) = ((xView L).view.loc (thr d L) ↦[(xView L).view.set]{fullShare} m (xLoc d) : sProp 𝕄) by rw [xView_set])) $$ Hx
  ihave Ho0' := (Entails.of_eq (show (oLoc d ↦[oPiece 0 (task L)]{fullShare} m (oLoc d) : sProp 𝕄) = ((oView0 L).view.loc (thr d L) ↦[(oView0 L).view.set]{fullShare} m (oLoc d) : sProp 𝕄) by rw [oView0_set])) $$ Ho0
  ihave Ho1' := (Entails.of_eq (show (oLoc d ↦[oPiece 1 (task L)]{fullShare} m (oLoc d) : sProp 𝕄) = ((oView1 L).view.loc (thr d L) ↦[(oView1 L).view.set]{fullShare} m (oLoc d) : sProp 𝕄) by rw [oView1_set])) $$ Ho1
  ihave Hl' := (Entails.of_eq (show lPts m d (task L) = ((Memref.whole main_arg1_scv).view.loc (thr d L) ↦{lShare (task L)} m (lLoc d) : sProp 𝕄) from rfl)) $$ Hl
  ihave H0' := (Entails.of_eq (show ((thr d L).loc cc0_scratch0 ↦{fullShare} f0 : sProp 𝕄) = ((Memref.whole cc0_scratch0).view.loc (thr d L) ↦{fullShare} f0 : sProp 𝕄) from rfl)) $$ H0
  ihave H1' := (Entails.of_eq (show ((thr d L).loc cc0_scratch1 ↦{fullShare} f1 : sProp 𝕄) = ((Memref.whole cc0_scratch1).view.loc (thr d L) ↦{fullShare} f1 : sProp 𝕄) from rfl)) $$ H1
  ihave H2' := (Entails.of_eq (show ((thr d L).loc cc0_scratch2 ↦{fullShare} f2 : sProp 𝕄) = ((Memref.whole cc0_scratch2).view.loc (thr d L) ↦{fullShare} f2 : sProp 𝕄) from rfl)) $$ H2
  ihave H3' := (Entails.of_eq (show ((thr d L).loc cc0_scratch3 ↦{fullShare} f3 : sProp 𝕄) = ((Memref.whole cc0_scratch3).view.loc (thr d L) ↦{fullShare} f3 : sProp 𝕄) from rfl)) $$ H3
  have hc1 := chk1_holds
  have hc2 := chk2_holds
  have hc3 := chk3_holds
  have hc4 := chk4_holds
  have hc5 := chk5_holds
  have hc6 := chk6_holds
  unfold SparseCore.vectorLoadIdx
  sl_exec
  have hT : View.readAt (Elt F) (Memref.whole cc0_scratch1).view (LoadRect.whole S2x2)
      (View.write (Elt F) (Memref.whole cc0_scratch1).view f1 (tile_body.sl.dma0_1 m d) Finset.univ) = m (lLoc d) := by
    refine (Memref.readAt_whole _ _ _).trans ?_
    refine (View.write_whole_univ _ _ _).trans ?_
    unfold tile_body.sl.dma0_1
    exact View.read_whole _ _
  -- the vector scratch is stored and read back whole three times: the lanes of the table, the exponentials, the probabilities
  have h1 : tile_body.sl.f m d L f1 hc1 = lanes (F := F) (m (lLoc d)) := by
    unfold tile_body.sl.f tile_body.sl.H0'_1
    rw [hT]
    exact readBack _ _ _
  have h2 : tile_body.sl.f_1 m d L f1 hc1 hc2 = exps (F := F) (m (lLoc d)) := by
    unfold tile_body.sl.f_1 tile_body.sl.H0'_2
    rw [hT, h1]
    exact readBack _ _ _
  have hv : tile_body.sl.f_2 m d L f1 hc1 hc2 = probs (F := F) (m (lLoc d)) := by
    unfold tile_body.sl.f_2 tile_body.sl.H0'_3
    rw [hT, h1, h2]
    exact readBack _ _ _
  rw [hv]
  have hx : tile_body.sl.dma0 m d L = block (F := F) (m (xLoc d)) (task L) := xView_read L (m (xLoc d))
  sl_for (inv d L (m (lLoc d)) (tile_body.sl.dma0 m d L)) $$ [H2' H3']
  case region =>
    intro k u
    exact trip d L (m (lLoc d)) _ ⟨fun x => (congrArg (probs (F := F) (m (lLoc d))) (all8 _ x)).trans (probs8 _),
      fun x => (congrArg (probs (F := F) (m (lLoc d))) (all9 _ x)).trans (probs9 _),
      fun x => (congrArg (probs (F := F) (m (lLoc d))) (all10 _ x)).trans (probs10 _),
      fun x => (congrArg (probs (F := F) (m (lLoc d))) (all11 _ x)).trans (probs11 _)⟩ k u
  · unfold inv
    isplitl [H2']
    · rw [show View.write (Elt F) (Memref.whole cc0_scratch2).view f2 (tile_body.sl.dma0 m d L) Finset.univ = tile_body.sl.dma0 m d L from
        View.write_whole_univ _ _ _]
      iexact H2'
    · iexists _; isplitr
      swap; · iexact H3'
      ipureintro; exact Done.zero _ _ _
  iintro %_ HI
  unfold inv
  icases HI with ⟨H2, %g, %hg, H3⟩
  rw [hx] at hg
  sl_exec
  sl_step
  isplitl [Hx' Hl' Ho0' Ho1']
  · isplitl [Hx']
    · iapply (Entails.of_eq (show ((xView L).view.loc (thr d L) ↦[(xView L).view.set]{fullShare} m (xLoc d) : sProp 𝕄) = xPts m d (task L) by rw [xView_set])); iexact Hx'
    isplitl [Hl']; · iexact Hl'
    isplitl [Ho0']
    · rw [oView0_set]
      iapply (Entails.of_eq (pointsTo_congr (lands0 L (T := m (lLoc d)) hg (m (oLoc d)) (tile_body.sl.dma0_2 d L g)
        (fun k => half0_read g _ _ k)))); iexact Ho0'
    · rw [oView1_set]
      iapply (Entails.of_eq (pointsTo_congr (lands1 L (T := m (lLoc d)) hg (m (oLoc d)) (tile_body.sl.dma0_3 d L g)
        (fun k => half1_read g _ _ k)))); iexact Ho1'
  isplitl [H0' H1' H2 H3 Hbufs]
  · isplitl [H0']; · iexists _; iexact H0'
    isplitl [H1']; · iexists _; iexact H1'
    isplitl [H2]; · iexists _; iexact H2
    isplitl [H3]; · iexists _; iexact H3
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Emission

end
-- ==== Proof.Launch.lean ====
/-
  The whole program's run. The call takes the two inputs and the output array; its sixteen tasks take their blocks, and bring them back
  with the output's at the values of `outOf`; @main then transposes that array into the program's result.
-/
module

public import proofs.«01_k».proof.Proof.Tile

@[expose] public section

noncomputable section

namespace Cert.Proof.Emission

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call hands over and takes back -/

/-- The call's arrays: the inputs at their launch contents, the output at `f`. -/
abbrev callPts (d : Dev nD) (f : Buf (Elt F) (oLoc d)) : sProp 𝕄 :=
  iprop((xLoc d ↦{fullShare} m (xLoc d)) ∗ (lLoc d ↦{fullShare} m (lLoc d)) ∗ oLoc d ↦{fullShare} f)
/-- One task's parts of them. -/
abbrev taskPts (d : Dev nD) (i : Fin 16) (f : Buf (Elt F) (oLoc d)) : sProp 𝕄 := iprop(xPts m d i ∗ lPts m d i ∗ oPts d i f)

/-- The call and each task go out with the output at its launch contents and come back with it at `outOf`. -/
def P : (K (F := F)).Pay (nD := nD) (Val := Elt F) (Name := ℕ) (U := UU) where
  st := fun q d _ => match q with | 0 => callPts m d (m (oLoc d))
  dn := fun q d _ => match q with | 0 => callPts m d (outOf m d)
  go := fun q d _ i => match q with | 0 => taskPts m d (Fin.cast nSub_zero i) (m (oLoc d))
  td := fun q d _ i => match q with | 0 => taskPts m d (Fin.cast nSub_zero i) (outOf m d)
  x := fun _ _ => iprop(emp)

/-- Every part handed over can be kept in the launch's invariants. -/
instance P_storable : (P (F := F) m).IsStorable where
  st q d _ := match q with | 0 => (inferInstance : BI.Storable (upEmb : UEmb _ 𝕄) (callPts m d (m (oLoc d))))
  dn q d _ := match q with | 0 => (inferInstance : BI.Storable (upEmb : UEmb _ 𝕄) (callPts m d (outOf m d)))
  go q d _ i := match q with
    | 0 => (inferInstance : BI.Storable (upEmb : UEmb _ 𝕄) (taskPts m d (Fin.cast nSub_zero i) (m (oLoc d))))
  td q d _ i := match q with
    | 0 => (inferInstance : BI.Storable (upEmb : UEmb _ 𝕄) (taskPts m d (Fin.cast nSub_zero i) (outOf m d)))

/-! ## A task's obligation -/

/-- The grid point of core `c` and tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the kernel's body at its core and tile. -/
theorem defs₀_vector (c : Fin τ.nSC) (s : Fin τ.nSub) :
    defs₀ (F := F) (.scVector c s) 0 ()
      = SparseCore.onTile hcore0 hsub0 (fun c s => cc0__emission_sc (coordsV c s)
          (Memref.whole main_arg1_scv) (Memref.isWhole_whole _) (Memref.whole main_arg0_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scoped0 cc0_scoped1 cc0_scoped2 cc0_scoped3) ⟨⟩ c s := rfl

/-- A task waits on no other call's semaphores, which is within what the launch asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets its obligation, by `tile_body`. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) O W hO).trans (wp_mono frame _ _ fun _ => obl_post)

/-! ## The call's arrays are the tasks' parts -/

/-- The call's subcores are the sixteen tasks. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The arrays, whatever the output holds, are the sixteen tasks' parts. -/
theorem call_split (d : Dev nD) (f : Buf (Elt F) (oLoc d)) :
    (bigSep Finset.univ fun i : Fin ((K (F := F)).nSub 0) => taskPts m d (Fin.cast nSub_zero i) f) = callPts m d f := by
  rw [bigSep_tasks (F := F) (fun i => taskPts m d i f), bigSep_sep', bigSep_sep', ← x_split, ← l_split, ← o_split]

/-- The call's arrays split into the tasks' parts, which come back as the call's arrays. -/
theorem vecSplit : (K (F := F)).VecSplit' (P m) 0 := by
  intro d c
  show callPts m d (m (oLoc d)) ⊢ |={Set.univ}=> iprop(
      (bigSep Finset.univ fun i : Fin ((K (F := F)).nSub 0) => taskPts m d (Fin.cast nSub_zero i) (m (oLoc d)))
      ∗ ((bigSep Finset.univ fun i : Fin ((K (F := F)).nSub 0) => taskPts m d (Fin.cast nSub_zero i) (outOf m d))
          -∗ callPts m d (outOf m d)))
  rw [call_split, call_split]
  iintro H; imodintro
  isplitl [H]; · iexact H
  iintro H; iexact H

/-! ## The ghost state at the launch -/

/-- The handshake's tokens, and nothing for the transfers' counters. -/
def u₀ : UU := (initOf (K (F := F)).hsCells (K (F := F)).hsToks, 1)

/-- Many nothings are nothing. -/
theorem bigSep_emp' {I : Type} (s : Finset I) : (bigSep s fun _ => iprop(emp)) = (iprop(emp) : sProp 𝕄) := bigSep_emp_const s

/-- It gives the launch's handshake tokens; the tasks ask for nothing further. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The call's output and the program's result, as @main names them. -/
abbrev o' : DevRef τ sig := Proc.devRef .tc (main_v0 : Ref sig .tc)
abbrev r' : DevRef τ sig := Proc.devRef .tc (main_v1 : Ref sig .tc)

/-- What @main does to the call's output: position first, state second. -/
abbrev turn : Vec F S2x16384 .f32 → Vec F S16384x2 .f32 := (transpose S16384x2 [1, 0] · transposes_S2x16384_S16384x2_1_0)
/-- The host's transpose as an operation on the two arrays. -/
abbrev opT : HloOp τ sig (Elt F) := StableHlo.unary main_v0 main_v1 (turn (F := F))

/-- The two arrays the transpose touches. -/
abbrev S2 : Finset (DevRef τ sig) := {o', r'}

/-- Holding the two is holding each whole. -/
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- @main's four arrays. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1)
      ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- After the call, the arrays hold what they held at the launch, but the output `outOf`. -/
def V1 (d : Dev nD) : Valuation τ sig (Elt F) := Function.update (fun b => m (d, b)) o' (outOf m d)

/-- The output, after the call; -/
theorem V1_o (d : Dev nD) : V1 m d o' = outOf m d := Function.update_self _ _ _
/-- the result, still as at the launch. -/
theorem V1_r (d : Dev nD) : V1 m d r' = m (rLoc d) := Function.update_of_ne (show r' ≠ o' by decide) _ _

/-- The program's result: the transposed output. -/
def resOf (d : Dev nD) : Buf (Elt F) (rLoc d) := turn (F := F) (outOf m d)

/-- The transpose, run after the call, leaves the program's result. -/
theorem result_r (d : Dev nD) : (opT (F := F)).result (V1 m d) r' = resOf m d := by
  refine (StableHlo.unary_result main_v0 main_v1 (turn (F := F)) _ _ (V1 m d)).trans ?_
  exact congrArg (turn (F := F)) (V1_o m d)

/-- One SparseCore takes part: what it is handed, -/
theorem st0_eq (d : Dev nD) : (bigSep Finset.univ fun c : Fin ((K (F := F)).nCore 0) => (P m).st 0 d c) = callPts m d (m (oLoc d)) :=
  bigSep_univ_of_subsingleton (0 : Fin 1)
/-- and what it hands back. -/
theorem dn0_eq (d : Dev nD) : (bigSep Finset.univ fun c : Fin ((K (F := F)).nCore 0) => (P m).dn 0 d c) = callPts m d (outOf m d) :=
  bigSep_univ_of_subsingleton (0 : Fin 1)

/-- What @main ends with: the inputs as they were, the result. -/
abbrev FIN (d : Dev nD) : sProp 𝕄 :=
  iprop((xLoc d ↦{fullShare} m (xLoc d)) ∗ (lLoc d ↦{fullShare} m (lLoc d)) ∗ rLoc d ↦{fullShare} resOf m d)

/-- @main on device `d`'s TensorCore: the call, then the transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hl, Ho, Hr⟩, Hts, -⟩, -⟩
  iapply ((K (F := F)).wp_run (D (F := F)) 𝒱 (EH := EH) (P := P m) κ d 0) $$ [Hst Hx Hl Ho Hr Hb Hts]
  isplitr; · iexact Hctx
  isplitl [Hst]; · iexact Hst
  isplitl [Hx Hl Ho]
  · rw [st0_eq]
    isplitl [Hx]; · iexact Hx
    isplitl [Hl]; · iexact Hl
    iexact Ho
  iintro ⟨Hst, Hdn⟩
  ihave Hdn' := (Entails.of_eq (dn0_eq m d)) $$ Hdn
  icases Hdn' with ⟨Hx, Hl, Ho⟩
  iapply (wp_hlo_within 𝒱 (SparseCore.T d) none Set.univ (op := opT) (S := S2) (show ({o', r'} : Finset (DevRef τ sig)) ⊆ S2 from Finset.Subset.refl _)
    (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq (held_S2 (F := F) d _)) $$ Hheld
  icases Hh with ⟨-, Hr⟩
  ihave Hr' := (Entails.of_eq (congrArg (fun f => (rLoc d ↦{fullShare} f : sProp 𝕄)) (result_r m d))) $$ Hr
  rw [wp_ret]; imodintro; imodintro
  isplitl [Hst]; · iexact Hst
  isplitr [Hb Hts]
  · isplitl [Hx]; · iexact Hx
    isplitl [Hl]; · iexact Hl
    iexact Hr'
  isplitl [Hb] <;> iassumption

/-- What a final state is read for. -/
def fq (d : Dev nD) (s' : Phys nD τ sig (Elt F)) : Prop :=
  s'.mem.mem (xLoc d) = m (xLoc d) ∧ s'.mem.mem (lLoc d) = m (lLoc d) ∧ s'.mem.mem (rLoc d) = resOf m d

set_option maxRecDepth 16384 in
/-- What @main ends with fixes the final memory there. -/
theorem hfin (d : Dev nD) (s' : Phys nD τ sig (Elt F)) : iprop(FIN m d ∗ SI s') ⊢ (⌜fq m d s'⌝ : sProp 𝕄) := by
  iintro ⟨⟨Hx, Hl, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- Every run ends with the inputs unchanged, the result at `resOf`, and every semaphore at zero. -/
def QC : PUnit × MemSt nD τ sig (Elt F) → Prop := fun r =>
  (∀ c : Dev nD, r.2.mem (xLoc c) = m (xLoc c) ∧ r.2.mem (lLoc c) = m (lLoc c) ∧ r.2.mem (rLoc c) = resOf m c) ∧ r.2.sem = fun _ => 0

/-- From any memory and any register state, with every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Emission

end
-- ==== Proof.Softmax.lean ====
/-
  What the reference computes first: the softmax of each row of the table, over the extended reals. Its row maximum starts from −∞ and
  is taken against −∞ once more, its row sum starts from zero; at an entry what is left is the exponential of the logit less the
  larger of the row's two, over the sum of the row's two exponentials: `prob` of the logit and its peer.
-/
module

public import proofs.«01_k».proof.Proof.Value
public import proofs.«01_k».proof.Proof.Gen.ReferenceIdeal
public import Idealize.ShloMosaic.Lib.Pointwise
public import Idealize.ShloMosaic.Lib.IdealHost

@[expose] public section

noncomputable section

namespace Cert.Proof.Emission.Ref

open Cert.ReferenceIdeal Cert.ReferenceIdeal.Gen
open Idealize.ShloMosaic

/-- The reference's row maxima. -/
def maxes (l : FVec Ideal S2x2 .f32) : FVec Ideal S2 .f32 :=
  maximumf (broadcastInDim S2 ![] bcast_S_S2 (constant S_ .f32 0xFF800000#32))
    (Host.reduce FloatOps.maximumf l (constant S_ .f32 0xFF800000#32) reducesTo_S2x2_S2_d1 h_S_)

/-- A row's value beside both of its columns. -/
def spread (v : FVec Ideal S2 .f32) : FVec Ideal S2x2 .f32 :=
  broadcastInDim S2x2 ![0, 1] bcast_S2x1_S2x2_0_1 (broadcastInDim S2x1 ![0] bcast_S2_S2x1_0 v)

/-- The exponentials of the shifted logits. -/
def exps (l : FVec Ideal S2x2 .f32) : FVec Ideal S2x2 .f32 := Host.exp (subf l (spread (maxes l)))

/-- The reference's softmax along the rows. -/
def soft (l : FVec Ideal S2x2 .f32) : FVec Ideal S2x2 .f32 :=
  Host.divf (exps l) (spread (Host.reduceAdd (exps l) (constant S_ .f32 0x00000000#32) reducesTo_S2x2_S2_d1 h_S_))

/-- The word of −∞ denotes the least extended real. -/
theorem neg_inf : Ideal.ofBits .f32 0xFF800000#32 = ⊥ := by simp [Ideal.ofBits, Ideal.ieee]

/-- A row's maximum is the larger of its two logits. -/
theorem maxes_apply (l : FVec Ideal S2x2 .f32) (s : Fin 2) : maxes l (ix1 s) = max (l (ix2 s 0)) (l (ix2 s 1)) := by
  pointwise [maxes]
  simp [neg_inf, Finset.univ_fin2]

/-- A spread array holds at `(s, k)` the row's value. -/
theorem spread_apply (v : FVec Ideal S2 .f32) (s k : Fin 2) : spread v (ix2 s k) = v (ix1 s) := by
  pointwise [spread]

/-- An exponential, at `(s, k)`. -/
theorem exps_apply (l : FVec Ideal S2x2 .f32) (s k : Fin 2) :
    exps l (ix2 s k) = Ideal.exp (l (ix2 s k) - max (l (ix2 s 0)) (l (ix2 s 1))) := by
  unfold exps
  pointwise
  rw [spread_apply, maxes_apply]

/-- The softmax, at `(s, k)`. -/
theorem soft_apply (l : FVec Ideal S2x2 .f32) (s k : Fin 2) :
    soft l (ix2 s k) = Ideal.div (exps l (ix2 s k)) (exps l (ix2 s 0) + exps l (ix2 s 1)) := by
  unfold soft
  pointwise
  rw [spread_apply]
  pointwise
  simp [Fin.sum_univ_two]

/-- Column 0 holds the probability of the row's first logit, -/
theorem soft_zero (l : FVec Ideal S2x2 .f32) (s : Fin 2) : soft l (ix2 s 0) = prob (l (ix2 s 0)) (l (ix2 s 1)) := by
  rw [soft_apply, exps_apply, exps_apply]
  simp only [prob, expTerm, Ideal.divf_def, Ideal.addf_def, Ideal.exp_def, Ideal.subf_def, Ideal.maximumf_def]
  rw [max_comm (l (ix2 s 1)) (l (ix2 s 0))]

/-- and column 1 that of its second. -/
theorem soft_one (l : FVec Ideal S2x2 .f32) (s : Fin 2) : soft l (ix2 s 1) = prob (l (ix2 s 1)) (l (ix2 s 0)) := by
  rw [soft_apply, exps_apply, exps_apply]
  simp only [prob, expTerm, Ideal.divf_def, Ideal.addf_def, Ideal.exp_def, Ideal.subf_def, Ideal.maximumf_def]
  rw [max_comm (l (ix2 s 1)) (l (ix2 s 0)), add_comm]

end Cert.Proof.Emission.Ref

end
-- ==== Proof.Take.lean ====
/-
  What the reference computes second: `jnp.take` along the columns. It wraps a negative index by the two columns, gathers the column
  its clamped index names, and puts a NaN where the wrapped index was out of range. Where the index word is 0 or 1 nothing is
  wrapped, clamped or replaced; the word of −1 is wrapped to 1.
-/
module

public import proofs.«01_k».proof.Proof.Softmax
public import proofs.«01_k».proof.Proof.Gen.Pre_in_range

@[expose] public section

noncomputable section

namespace Cert.Proof.Emission.Ref

open Cert.ReferenceIdeal Cert.ReferenceIdeal.Gen
open Idealize.ShloMosaic

/-- The start indices: the words, a negative one plus 2, as one column. -/
def starts (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 2#32))) x)

/-- Whether a start index lies between 0 and 1. -/
def inside (x : IVec S16384 32) : IVec S16384 1 :=
  Host.reduce IntOp.andi
    (andi (cmpi .sge (starts x) (broadcastInDim S16384x1 ![] bcast_S_S16384x1 (constantI S_ 32 0#32)))
      (cmpi .sle (starts x) (broadcastInDim S16384x1 ![0, 1] bcast_S1x1_S16384x1_0_1 (broadcastInDim S1x1 ![1] bcast_S1_S1x1_1 (constantI S1 32 1#32)))))
    (constantI S_ 1 1#1) reducesTo_S16384x1_S16384_d1 h_S_

/-- The table's columns named by the start indices. -/
def columns (p : FVec Ideal S2x2 .f32) (x : IVec S16384 32) : FVec Ideal S2x16384 .f32 :=
  Host.gather gather_S2x2_S16384x1_S2x16384_0_1_n_n_1_1_21 p (starts x)

/-- The taken columns, a NaN where the index was out of range. -/
def taken (p : FVec Ideal S2x2 .f32) (x : IVec S16384 32) : FVec Ideal S2x16384 .f32 :=
  select (broadcastInDim S2x16384 ![1] bcast_S16384_S2x16384_1 (inside x)) (columns p x)
    (broadcastInDim S2x16384 ![] bcast_S_S2x16384 (constant S_ .f32 0x7FC00000#32))

/-- The start index a word stands for where the precondition holds: 0 for the word 0, and 1 for the words 1 and −1. -/
def column (w : BitVec 32) : BitVec 32 := if w = 0#32 then 0#32 else 1#32

/-- The words the precondition lets in. -/
def Allowed (w : BitVec 32) : Prop := w = 0#32 ∨ w = 1#32 ∨ w = -1#32

/-- Wherever the precondition holds, the word is 0, 1 or −1. -/
theorem named_of_pre (x : IVec S16384 32) (l : FVec Ideal S2x2 .f32)
    (h : Cert.Pre_in_range.fn (F := Ideal) x l = fun _ => 1#1) (n : Fin 16384) : Allowed (x (ix1 n)) := by
  have e := congrFun h (ix1 n)
  unfold Cert.Pre_in_range.fn at e
  pointwise at e
  generalize x (ix1 n) = w at e ⊢
  have both : (-1#32 : BitVec 32).sle w = true ∧ w.slt 2#32 = true := by
    unfold IntOp.cmpi IntOp.andi at e
    cases h1 : (-1#32 : BitVec 32).sle w <;> cases h2 : w.slt 2#32 <;> simp_all
  rw [BitVec.sle_eq_decide, BitVec.slt_eq_decide, decide_eq_true_eq, decide_eq_true_eq] at both
  have hm : (-1#32 : BitVec 32).toInt = -1 := rfl
  have h0 : (0#32 : BitVec 32).toInt = 0 := rfl
  have h1 : (1#32 : BitVec 32).toInt = 1 := rfl
  have h2 : (2#32 : BitVec 32).toInt = 2 := rfl
  rcases (show w.toInt = 0 ∨ w.toInt = 1 ∨ w.toInt = -1 by omega) with h | h | h
  · exact .inl (BitVec.eq_of_toInt_eq (h.trans h0.symm))
  · exact .inr (.inl (BitVec.eq_of_toInt_eq (h.trans h1.symm)))
  · exact .inr (.inr (BitVec.eq_of_toInt_eq (h.trans hm.symm)))

/-- Such a word's start index is its column. -/
theorem starts_apply (x : IVec S16384 32) (n : Fin 16384) (h : Allowed (x (ix1 n))) (k : Fin 1) :
    starts x (ix2 n k) = column (x (ix1 n)) := by
  pointwise [starts]
  rcases h with h | h | h <;> rw [h] <;> decide

/-- and lies inside. -/
theorem inside_apply (x : IVec S16384 32) (n : Fin 16384) (h : Allowed (x (ix1 n))) : inside x (ix1 n) = 1#1 := by
  unfold inside
  pointwise
  simp only [starts_apply x n h]
  rcases h with h | h | h <;> rw [h] <;> decide

/-- The gather reads the operand at the result's row and at the column its start index names. -/
theorem columns_apply (p : FVec Ideal S2x2 .f32) (x : IVec S16384 32) (s k : Fin 2) (n : Fin 16384)
    (h : (starts x (ix2 n 0)).toInt.toNat = k.val) : columns p x (ix2 s n) = p (ix2 s k) := by
  unfold columns Host.gather
  refine congrArg p (funext fun a => Fin.ext ?_)
  set D := gather_S2x2_S16384x1_S2x16384_0_1_n_n_1_1_21 with hD
  show D.start (ix2 s n) (starts x) a + D.batchCoord (ix2 s n) a + D.offCoord (ix2 s n) a = _
  rw [D.batchCoord_eq_zero _ _ (show a ∉ D.operandBatchingDims from List.not_mem_nil), Nat.add_zero]
  match a with
  | ⟨0, _⟩ =>
    show D.start (ix2 s n) (starts x) (0 : Fin 2) + D.offCoord (ix2 s n) (0 : Fin 2) = s.val
    have hm : (0 : Fin 2) ∉ D.startIndexMap := by decide
    unfold GatherDims.start
    rw [dif_neg hm, Nat.zero_add]
    rfl
  | ⟨1, _⟩ =>
    show D.start (ix2 s n) (starts x) (1 : Fin 2) + D.offCoord (ix2 s n) (1 : Fin 2) = k.val
    have hk : (1 : Fin 2) ∉ D.sKept := by decide
    have hm : (1 : Fin 2) ∈ D.startIndexMap := by decide
    rw [D.offCoord_eq_zero _ _ hk, Nat.add_zero]
    unfold GatherDims.start
    rw [dif_pos hm]
    have hsi : D.siIdx (ix2 s n) ⟨D.startIndexMap.idxOf 1, List.idxOf_lt_length_iff.2 hm⟩ = ix2 n 0 := by
      funext b; refine Fin.ext ?_
      match b with
      | ⟨0, _⟩ => rfl
      | ⟨1, _⟩ => rfl
    rw [hsi, h]
    exact Nat.min_eq_left (Nat.le_of_lt_succ k.isLt)

/-- Where the word is 0, the taken entry is the table's in column 0, -/
theorem taken_zero (p : FVec Ideal S2x2 .f32) (x : IVec S16384 32) (s : Fin 2) (n : Fin 16384) (h : x (ix1 n) = 0#32) :
    taken p x (ix2 s n) = p (ix2 s 0) := by
  unfold taken
  pointwise
  rw [inside_apply x n (.inl h), columns_apply p x s 0 n (by rw [starts_apply x n (.inl h), h]; rfl)]
  rfl

/-- and where it is another the precondition lets in, the table's in column 1. -/
theorem taken_one (p : FVec Ideal S2x2 .f32) (x : IVec S16384 32) (s : Fin 2) (n : Fin 16384) (h : Allowed (x (ix1 n)))
    (hne : x (ix1 n) ≠ 0#32) : taken p x (ix2 s n) = p (ix2 s 1) := by
  unfold taken
  pointwise
  rw [inside_apply x n h, columns_apply p x s 1 n (by rw [starts_apply x n h, column, if_neg hne]; rfl)]
  rfl

end Cert.Proof.Emission.Ref

end
-- ==== Proof.Equation.lean ====
/-
  The equation: where every index word is 0, 1 or −1, the array the kernel's run leaves and the array the reference's run leaves are one,
  over the extended reals.
-/
module

public import proofs.«01_k».proof.Proof.Launch
public import proofs.«01_k».proof.Proof.Take

@[expose] public section

noncomputable section

namespace Cert.Proof.Emission.Ref

open Cert.ReferenceIdeal Cert.ReferenceIdeal.Gen
open Idealize.ShloMosaic

/-- The reference's result: the taken columns of the softmax, transposed. -/
def result (x : IVec S16384 32) (l : FVec Ideal S2x2 .f32) : FVec Ideal S16384x2 .f32 :=
  transpose S16384x2 [1, 0] (taken (soft l) x) transposes_S2x16384_S16384x2_1_0

/-- An entry the reference takes is what the word picks among the row's two probabilities. -/
theorem taken_soft (x : IVec S16384 32) (l : FVec Ideal S2x2 .f32) (s : Fin 2) (n : Fin 16384) (h : Allowed (x (ix1 n))) :
    taken (soft l) x (ix2 s n) = pick (x (ix1 n)) (l (ix2 s 0)) (l (ix2 s 1)) := by
  unfold pick
  by_cases h0 : x (ix1 n) = 0#32
  · rw [taken_zero _ _ _ _ h0, soft_zero, if_pos h0]
  · rw [taken_one _ _ _ _ h h0, soft_one, if_neg h0]

/-- Under the precondition, what the SparseCore call leaves is what the reference takes, entry by entry. -/
theorem outVal_eq_taken (x : IVec S16384 32) (l : FVec Ideal S2x2 .f32) (h : Cert.Pre_in_range.fn (F := Ideal) x l = fun _ => 1#1) :
    outVal (F := Ideal) x l = taken (soft l) x := by
  funext j
  obtain ⟨s, n, rfl⟩ : ∃ (s : Fin 2) (n : Fin 16384), j = ix2 s n := ⟨j 0, j 1, eq_ix2 j⟩
  rw [taken_soft x l s n (named_of_pre x l h n)]
  simp only [ix1_eq_valueIdx, ix2_eq_valueIdx]
  rfl

/-- Under the precondition, the two programs' results are one array. -/
theorem turn_eq_result (x : IVec S16384 32) (l : FVec Ideal S2x2 .f32) (h : Cert.Pre_in_range.fn (F := Ideal) x l = fun _ => 1#1) :
    turn (F := Ideal) (outVal (F := Ideal) x l) = result x l := by
  rw [outVal_eq_taken x l h]
  rfl

end Cert.Proof.Emission.Ref

end
-- ==== Proof.lean ====
/-
  The claims, assembled. `Launch.lean` runs the kernel's program over any float values: from any memory it terminates with the inputs
  unchanged, every semaphore at zero and the result at `resOf`. Both printed kernels are that program, so both frames are that run. The
  reference's run ends at `Ref.result`; `Equation.lean` has the two arrays equal where every index word is 0, 1 or −1.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Equation
public import Idealize.ShloMosaic.Adequacy
public import Idealize.ShloMosaic.Init

@[expose] public section

noncomputable section

namespace Cert.Proof

open Idealize.ShloMosaic Idealize.SL.Sem
open Cert.Proof.Emission

/-- The kernel's frame: every run ends, the two inputs unchanged and every semaphore at zero. -/
theorem frame_kernel : Cert.quiescent_Kernel := fun m ρ _ =>
  (θ_run (Cert.KernelIdeal.defs (F := Bits)) Cert.KernelIdeal.threads _).mono (fun _ h => ⟨fun c => ⟨(h.1 c).1, (h.1 c).2.1⟩, h.2⟩)
    (run_main (F := Bits) m ρ)

/-- The same of the kernel over the extended reals, -/
theorem frame_ideal : Cert.quiescent_KernelIdeal := fun m ρ _ =>
  (θ_run (Cert.KernelIdeal.defs (F := Ideal)) Cert.KernelIdeal.threads _).mono (fun _ h => ⟨fun c => ⟨(h.1 c).1, (h.1 c).2.1⟩, h.2⟩)
    (run_main (F := Ideal) m ρ)

/-- and so under the precondition, which it does not need. -/
theorem frame_ideal_in_range : Cert.quiescent_KernelIdeal_pre_in_range := fun m ρ _ =>
  (θ_run (Cert.KernelIdeal.defs (F := Ideal)) Cert.KernelIdeal.threads _).mono (fun _ h => ⟨fun c => ⟨(h.1 c).1, (h.1 c).2.1⟩, h.2⟩)
    (run_main (F := Ideal) m ρ)

/-- The reference's run with its semaphores: it has none, so they read zero. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_v12)
            = Ref.result (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run (Cert.ReferenceIdeal.defs (F := Ideal)) (onTc (τ := Cert.ReferenceIdeal.τ) (Cert.ReferenceIdeal.main (F := Ideal))) _).mono
    (fun r h => ⟨fun c => ⟨(h c).1.trans rfl, (h c).2.1, (h c).2.2⟩, sem_eq_zero_of_no_sems (by decide) r.2⟩)
    (Cert.ReferenceIdeal.Value.run (F := Ideal) m ρ)

/-- The reference's frame, -/
theorem frame_reference : Cert.quiescent_ReferenceIdeal := fun m ρ _ =>
  (θ_run (Cert.ReferenceIdeal.defs (F := Ideal)) (onTc (τ := Cert.ReferenceIdeal.τ) (Cert.ReferenceIdeal.main (F := Ideal))) _).mono
    (fun _ h => ⟨fun c => (h.1 c).2, h.2⟩) (run_reference m ρ)

/-- and so under the precondition. -/
theorem frame_reference_in_range : Cert.quiescent_ReferenceIdeal_pre_in_range := fun m ρ _ =>
  (θ_run (Cert.ReferenceIdeal.defs (F := Ideal)) (onTc (τ := Cert.ReferenceIdeal.τ) (Cert.ReferenceIdeal.main (F := Ideal))) _).mono
    (fun _ h => ⟨fun c => (h.1 c).2, h.2⟩) (run_reference m ρ)

/-- Over the extended reals, from equal inputs whose index words are 0, 1 or −1, both programs end with one result, the inputs unchanged. -/
theorem algebraic : Cert.algebraic_KernelIdeal_ReferenceIdeal_pre_in_range := fun m ρ m' ρ' hpre hin =>
  ⟨fun c => resOf m c,
    (θ_run (Cert.KernelIdeal.defs (F := Ideal)) Cert.KernelIdeal.threads _).mono
      (fun _ h c => ⟨(h.1 c).2.2, (h.1 c).1, (h.1 c).2.1⟩) (run_main (F := Ideal) m ρ),
    (θ_run (Cert.ReferenceIdeal.defs (F := Ideal)) (onTc (τ := Cert.ReferenceIdeal.τ) (Cert.ReferenceIdeal.main (F := Ideal))) _).mono
      (fun _ h c => ⟨(h.1 c).1.trans ((congrArg₂ Ref.result (hin c).1 (hin c).2).trans (Ref.turn_eq_result _ _ (hpre c)).symm), (h.1 c).2⟩)
      (run_reference m' ρ')⟩

/-- Every claim. The kernel over the extended reals is the kernel's own text: nothing was rewritten, so nothing is to preserve. -/
theorem claim : Cert.Claim := ⟨Cert.Kernel.Gen.facts, Cert.KernelIdeal.Gen.facts, Cert.ReferenceIdeal.Gen.facts, Cert.Pre_in_range.Gen.facts,
  frame_kernel, frame_ideal, frame_ideal_in_range, frame_reference, frame_reference_in_range, trivial, algebraic⟩

end Cert.Proof

end
